-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x32x128x128 : Shape := ⟨5, ![4, 1, 32, 128, 128]⟩
abbrev S4x64x3 : Shape := ⟨3, ![4, 64, 3]⟩
abbrev S4x32x128x128 : Shape := ⟨4, ![4, 32, 128, 128]⟩
abbrev S1x1 : Shape := ⟨2, ![1, 1]⟩
abbrev S_ : Shape := ⟨0, ![]⟩
abbrev S1x32x128x128 : Shape := ⟨4, ![1, 32, 128, 128]⟩
abbrev S1x64x3 : Shape := ⟨3, ![1, 64, 3]⟩
abbrev S64x3 : Shape := ⟨2, ![64, 3]⟩
abbrev S64x1 : Shape := ⟨2, ![64, 1]⟩
abbrev S64 : Shape := ⟨1, ![64]⟩
abbrev S1x64 : Shape := ⟨2, ![1, 64]⟩
abbrev S32x1 : Shape := ⟨2, ![32, 1]⟩
abbrev S32x64 : Shape := ⟨2, ![32, 64]⟩
abbrev S128x1 : Shape := ⟨2, ![128, 1]⟩
abbrev S128x64 : Shape := ⟨2, ![128, 64]⟩
abbrev S32x1x64 : Shape := ⟨3, ![32, 1, 64]⟩
abbrev S1x128x64 : Shape := ⟨3, ![1, 128, 64]⟩
abbrev S32x128x64 : Shape := ⟨3, ![32, 128, 64]⟩
abbrev S4096x64 : Shape := ⟨2, ![4096, 64]⟩
abbrev S4096x128 : Shape := ⟨2, ![4096, 128]⟩
abbrev S32x128x128 : Shape := ⟨3, ![32, 128, 128]⟩
abbrev S1x1x64 : Shape := ⟨3, ![1, 1, 64]⟩
abbrev S1 : Shape := ⟨1, ![1]⟩
abbrev S1x1x1 : Shape := ⟨3, ![1, 1, 1]⟩

abbrev nBuf : Space → Nat
  | .hbm => 5
  | .vmem => 4
  | .smem => 0
  | _ => 0

abbrev bufTy : (tb : Table) → Fin (tcTables nBuf tb) → BufTy
  | .hbm, ⟨0, _⟩ => ⟨S4x1x32x128x128, .f32⟩
  | .hbm, ⟨1, _⟩ => ⟨S4x64x3, .f32⟩
  | .hbm, ⟨2, _⟩ => ⟨S4x32x128x128, .f32⟩
  | .hbm, ⟨3, _⟩ => ⟨S1x1, .f32⟩
  | .hbm, ⟨4, _⟩ => ⟨S_, .f32⟩
  | .local _ .vmem, ⟨0, _⟩ => ⟨S4x64x3, .f32⟩
  | .local _ .vmem, ⟨1, _⟩ => ⟨S1x32x128x128, .f32⟩
  | .local _ .vmem, ⟨2, _⟩ => ⟨S1x32x128x128, .f32⟩
  | .local _ .vmem, ⟨3, _⟩ => ⟨S1x1, .f32⟩
  | _, _ => ⟨S4x1x32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![4], ![false]⟩

def k0_off1 (i : grid0.Coords) : Fin 3 → Nat :=
  let arg0 : BitVec 32 := BitVec.ofNat 32 (i 0).val
  let v0 : Index := Scalar.indexCast arg0
  let c0 : Index := 0#32
  let c0_0 : Index := 0#32
  ![v0.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x64x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "neg_log2_e" => some ((-((Real.log 2)⁻¹) : ℝ) : EReal)
  | _ => none
-- ==== ReferenceIdeal.lean ====
abbrev S4x1x32x128x128 : Shape := ⟨5, ![4, 1, 32, 128, 128]⟩
abbrev S4x64x3 : Shape := ⟨3, ![4, 64, 3]⟩
abbrev S4x32x128x128 : Shape := ⟨4, ![4, 32, 128, 128]⟩
abbrev S_ : Shape := ⟨0, ![]⟩
abbrev S32 : Shape := ⟨1, ![32]⟩
abbrev S128 : Shape := ⟨1, ![128]⟩
abbrev S1x1x32x1x1 : Shape := ⟨5, ![1, 1, 32, 1, 1]⟩
abbrev S4x64x1 : Shape := ⟨3, ![4, 64, 1]⟩
abbrev S4x64 : Shape := ⟨2, ![4, 64]⟩
abbrev S4x64x1x1x1 : Shape := ⟨5, ![4, 64, 1, 1, 1]⟩
abbrev S4x64x32x1x1 : Shape := ⟨5, ![4, 64, 32, 1, 1]⟩
abbrev S1x1x1x128x1 : Shape := ⟨5, ![1, 1, 1, 128, 1]⟩
abbrev S4x64x1x128x1 : Shape := ⟨5, ![4, 64, 1, 128, 1]⟩
abbrev S1x1x1x1x128 : Shape := ⟨5, ![1, 1, 1, 1, 128]⟩
abbrev S4x64x1x1x128 : Shape := ⟨5, ![4, 64, 1, 1, 128]⟩
abbrev S4x64x32x128x1 : Shape := ⟨5, ![4, 64, 32, 128, 1]⟩
abbrev S4x64x32x128x128 : Shape := ⟨5, ![4, 64, 32, 128, 128]⟩
abbrev S4 : Shape := ⟨1, ![4]⟩

abbrev nBuf : Space → Nat
  | .hbm => 70
  | .vmem => 0
  | .smem => 0
  | _ => 0

abbrev bufTy : (tb : Table) → Fin (tcTables nBuf tb) → BufTy
  | .hbm, ⟨0, _⟩ => ⟨S4x1x32x128x128, .f32⟩
  | .hbm, ⟨1, _⟩ => ⟨S4x64x3, .f32⟩
  | .hbm, ⟨2, _⟩ => ⟨S4x32x128x128, .f32⟩
  | .hbm, ⟨3, _⟩ => ⟨S4x32x128x128, .f32⟩
  | .hbm, ⟨4, _⟩ => ⟨S4x32x128x128, .f32⟩
  | .hbm, ⟨5, _⟩ => ⟨S_, .f32⟩
  | .hbm, ⟨6, _⟩ => ⟨S4x32x128x128, .f32⟩
  | .hbm, ⟨7, _⟩ => ⟨S4x32x128x128, .f32⟩
  | .hbm, ⟨8, _⟩ => ⟨S_, .f32⟩
  | .hbm, ⟨9, _⟩ => ⟨S4x32x128x128, .f32⟩
  | .hbm, ⟨10, _⟩ => ⟨S4x32x128x128, .f32⟩
  | .hbm, ⟨11, _⟩ => ⟨S32, .f32⟩
  | .hbm, ⟨12, _⟩ => ⟨S128, .f32⟩
  | .hbm, ⟨13, _⟩ => ⟨S128, .f32⟩
  | .hbm, ⟨14, _⟩ => ⟨S1x1x32x1x1, .f32⟩
  | .hbm, ⟨15, _⟩ => ⟨S4x64x1, .f32⟩
  | .hbm, ⟨16, _⟩ => ⟨S4x64, .f32⟩
  | .hbm, ⟨17, _⟩ => ⟨S4x64x1x1x1, .f32⟩
  | .hbm, ⟨18, _⟩ => ⟨S4x64x32x1x1, .f32⟩
  | .hbm, ⟨19, _⟩ => ⟨S4x64x32x1x1, .f32⟩
  | .hbm, ⟨20, _⟩ => ⟨S4x64x32x1x1, .f32⟩
  | .hbm, ⟨21, _⟩ => ⟨S4x64x32x1x1, .f32⟩
  | .hbm, ⟨22, _⟩ => ⟨S1x1x1x128x1, .f32⟩
  | .hbm, ⟨23, _⟩ => ⟨S4x64x1, .f32⟩
  | .hbm, ⟨24, _⟩ => ⟨S4x64, .f32⟩
  | .hbm, ⟨25, _⟩ => ⟨S4x64x1x1x1, .f32⟩
  | .hbm, ⟨26, _⟩ => ⟨S4x64x1x128x1, .f32⟩
  | .hbm, ⟨27, _⟩ => ⟨S4x64x1x128x1, .f32⟩
  | .hbm, ⟨28, _⟩ => ⟨S4x64x1x128x1, .f32⟩
  | .hbm, ⟨29, _⟩ => ⟨S4x64x1x128x1, .f32⟩
  | .hbm, ⟨30, _⟩ => ⟨S1x1x1x1x128, .f32⟩
  | .hbm, ⟨31, _⟩ => ⟨S4x64x1, .f32⟩
  | .hbm, ⟨32, _⟩ => ⟨S4x64, .f32⟩
  | .hbm, ⟨33, _⟩ => ⟨S4x64x1x1x1, .f32⟩
  | .hbm, ⟨34, _⟩ => ⟨S4x64x1x1x128, .f32⟩
  | .hbm, ⟨35, _⟩ => ⟨S4x64x1x1x128, .f32⟩
  | .hbm, ⟨36, _⟩ => ⟨S4x64x1x1x128, .f32⟩
  | .hbm, ⟨37, _⟩ => ⟨S4x64x1x1x128, .f32⟩
  | .hbm, ⟨38, _⟩ => ⟨S4x64x32x128x1, .f32⟩
  | .hbm, ⟨39, _⟩ => ⟨S4x64x32x128x1, .f32⟩
  | .hbm, ⟨40, _⟩ => ⟨S4x64x32x128x1, .f32⟩
  | .hbm, ⟨41, _⟩ => ⟨S4x64x32x128x128, .f32⟩
  | .hbm, ⟨42, _⟩ => ⟨S4x64x32x128x128, .f32⟩
  | .hbm, ⟨43, _⟩ => ⟨S4x64x32x128x128, .f32⟩
  | .hbm, ⟨44, _⟩ => ⟨S4x64x32x128x128, .f32⟩
  | .hbm, ⟨45, _⟩ => ⟨S_, .f32⟩
  | .hbm, ⟨46, _⟩ => ⟨S4x64x32x128x128, .f32⟩
  | .hbm, ⟨47, _⟩ => ⟨S4x64x32x128x128, .f32⟩
  | .hbm, ⟨48, _⟩ => ⟨S4x64x32x128x128, .f32⟩
  | .hbm, ⟨49, _⟩ => ⟨S_, .f32⟩
  | .hbm, ⟨50, _⟩ => ⟨S4x32x128x128, .f32⟩
  | .hbm, ⟨51, _⟩ => ⟨S_, .f32⟩
  | .hbm, ⟨52, _⟩ => ⟨S4x32x128x128, .f32⟩
  | .hbm, ⟨53, _⟩ => ⟨S4x32x128x128, .f32⟩
  | .hbm, ⟨54, _⟩ => ⟨S4x32x128x128, .f32⟩
  | .hbm, ⟨55, _⟩ => ⟨S4x64, .f32⟩
  | .hbm, ⟨56, _⟩ => ⟨S_, .f32⟩
  | .hbm, ⟨57, _⟩ => ⟨S4x64, .f32⟩
  | .hbm, ⟨58, _⟩ => ⟨S4x64, .f32⟩
  | .hbm, ⟨59, _⟩ => ⟨S4x64, .f32⟩
  | .hbm, ⟨60, _⟩ => ⟨S_, .f32⟩
  | .hbm, ⟨61, _⟩ => ⟨S4, .f32⟩
  | .hbm, ⟨62, _⟩ => ⟨S_, .f32⟩
  | .hbm, ⟨63, _⟩ => ⟨S4, .f32⟩
  | .hbm, ⟨64, _⟩ => ⟨S4, .f32⟩
  | .hbm, ⟨65, _⟩ => ⟨S4, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S4x1x32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_cst_1 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst_2 : Ref sig .tc := ⟨.hbm, 49, rfl⟩
abbrev main_v44 : Ref sig .tc := ⟨.hbm, 50, rfl⟩
abbrev main_cst_3 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst_4 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_5 : Ref sig .tc := ⟨.hbm, 60, rfl⟩
abbrev main_v52 : Ref sig .tc := ⟨.hbm, 61, rfl⟩
abbrev main_cst_6 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_7 : Ref sig .tc := ⟨.hbm, 66, rfl⟩
abbrev main_v56 : Ref sig .tc := ⟨.hbm, 67, rfl⟩
abbrev main_cst_8 : Ref sig .tc := ⟨.hbm, 68, rfl⟩
abbrev main_v57 : Ref sig .tc := ⟨.hbm, 69, rfl⟩

abbrev nD : Nat := 1
abbrev τ : Topo := Topo.v7x

variable {F : FTy → Type} [FloatOps F]
-- ==== Proof.Numbers.lean ====
module

public import Idealize.ShloMosaic.Lib.Pointwise

@[expose] public section

/-! The real numbers behind the program's float constants, and the exponential, the logarithm and the
quotient of extended reals on the values that occur. -/

noncomputable section

namespace Cert.SoftAssign

open Idealize.ShloMosaic

/-- The constant printed `0.125` is one eighth. -/
theorem eighth : Ideal.ofBits .f32 0x3E000000#32 = ((1 / 8 : ℝ) : EReal) := by
  simp [Ideal.ofBits, Ideal.ieee, -EReal.coe_mul]; norm_num

/-- The constant printed `8.0` is eight. -/
theorem eight : Ideal.ofBits .f32 0x41000000#32 = ((8 : ℝ) : EReal) := by
  simp [Ideal.ofBits, Ideal.ieee, -EReal.coe_mul]; norm_num

/-- The constant printed `64.0` is sixty-four. -/
theorem sixtyFour : Ideal.ofBits .f32 0x42800000#32 = ((64 : ℝ) : EReal) := by
  simp [Ideal.ofBits, Ideal.ieee, -EReal.coe_mul]; norm_num

/-- The constant printed `4.0` is four. -/
theorem four : Ideal.ofBits .f32 0x40800000#32 = ((4 : ℝ) : EReal) := by
  simp [Ideal.ofBits, Ideal.ieee, -EReal.coe_mul]; norm_num

/-- The constant printed `0.00390625` is one over two hundred and fifty-six. -/
theorem perCell : Ideal.ofBits .f32 0x3B800000#32 = ((1 / 256 : ℝ) : EReal) := by
  simp [Ideal.ofBits, Ideal.ieee, -EReal.coe_mul]; norm_num

/-- The small floor both programs put under a denominator and under a logarithm. -/
def floorE : EReal := Ideal.ofBits .f32 0x322BCC77#32

/-- The floor is a positive real number. -/
theorem floorE_pos : ∃ e : ℝ, 0 < e ∧ floorE = (e : EReal) := by
  refine ⟨11258999 / 2 ^ 50, by positivity, ?_⟩
  simp [floorE, Ideal.ofBits, Ideal.ieee, -EReal.coe_mul]; norm_num

/-- The larger of a real number and the floor is a positive real number. -/
theorem max_floorE (d : ℝ) : ∃ r : ℝ, 0 < r ∧ max (d : EReal) floorE = (r : EReal) := by
  obtain ⟨e, he, h⟩ := floorE_pos
  exact ⟨max d e, lt_max_of_lt_right he, by rw [h]; exact (EReal.coe_strictMono.monotone.map_max).symm⟩

/-- The quotient of two real numbers, the divisor positive, is their real quotient. -/
theorem div_real (x y : ℝ) (hy : 0 < y) : Ideal.div (x : EReal) (y : EReal) = ((x / y : ℝ) : EReal) := by
  rw [Ideal.div_coe hy.ne', ← EReal.coe_mul, mul_one_div]

/-- A finite sum of real numbers, taken among the extended reals, is the real sum. -/
theorem sum_real {ι : Type} [Fintype ι] (f : ι → ℝ) : ∑ i, (f i : EReal) = ((∑ i, f i : ℝ) : EReal) :=
  (map_sum (⟨⟨Real.toEReal, EReal.coe_zero⟩, EReal.coe_add⟩ : ℝ →+ EReal) f Finset.univ).symm

end Cert.SoftAssign

end
-- ==== Proof.Bump.lean ====
module

public import proofs.«01_k».proof.Proof.Numbers

@[expose] public section

/-! One coordinate's factor of the Gaussian, and the whole Gaussian as the product of three such factors. -/

noncomputable section

namespace Cert.SoftAssign

open Idealize.ShloMosaic

/-- The coordinate of the voxel numbered `k` along an axis, a real number. -/
def place (k : Nat) : ℝ := ((BitVec.ofNat 32 k).toInt : ℝ)

/-- The squared distance, along one axis, from the voxel numbered `k` to the coordinate `c`. -/
def gap (k : Nat) (c : EReal) : EReal := ((place k : EReal) - c) * ((place k : EReal) - c)

/-- One axis's factor of the Gaussian of a squared distance `s`. -/
def factor (s : EReal) : EReal := Ideal.exp ((0 - s) * ((1 / 8 : ℝ) : EReal))

/-- A squared distance is a nonnegative real number or infinite. -/
theorem gap_cases (k : Nat) (c : EReal) : gap k c = ⊤ ∨ ∃ r : ℝ, 0 ≤ r ∧ gap k c = (r : EReal) := by
  induction c with
  | bot => left; simp [gap]
  | top => left; simp [gap]
  | coe c =>
    right
    refine ⟨(place k - c) * (place k - c), mul_self_nonneg _, ?_⟩
    rw [gap, ← EReal.coe_sub, ← EReal.coe_mul]

/-- The factor of an infinite squared distance is zero. -/
theorem factor_top : factor ⊤ = 0 := by
  rw [factor, zero_sub, EReal.neg_top, EReal.bot_mul_coe_of_pos (by norm_num)]
  rfl

/-- The factor of a real squared distance is the real exponential. -/
theorem factor_real (r : ℝ) : factor (r : EReal) = ((Real.exp (-r / 8) : ℝ) : EReal) := by
  rw [factor, zero_sub, ← EReal.coe_neg, ← EReal.coe_mul, mul_one_div]
  rfl

/-- The factor of a squared distance is a nonnegative real number. -/
theorem factor_gap (k : Nat) (c : EReal) : ∃ r : ℝ, 0 ≤ r ∧ factor (gap k c) = (r : EReal) := by
  rcases gap_cases k c with h | ⟨r, -, h⟩
  · exact ⟨0, le_rfl, by rw [h, factor_top]; rfl⟩
  · exact ⟨_, (Real.exp_pos _).le, by rw [h, factor_real]⟩

/-- The exponential of minus infinity over eight is zero. -/
theorem exp_bot_div : Ideal.exp (Ideal.div (⊥ : EReal) ((8 : ℝ) : EReal)) = 0 := by
  rw [Ideal.div_coe (by norm_num), EReal.bot_mul_coe_of_pos (by norm_num)]
  rfl

/-- The product of the three axes' factors is the Gaussian of the sum of the three squared distances. -/
theorem factor_mul (i j k : Nat) (a b c : EReal) :
    factor (gap i a) * factor (gap j b) * factor (gap k c)
      = Ideal.exp (Ideal.div (-(gap i a + gap j b + gap k c)) ((8 : ℝ) : EReal)) := by
  rcases gap_cases i a with ha | ⟨x, -, ha⟩ <;> rcases gap_cases j b with hb | ⟨y, -, hb⟩ <;>
    rcases gap_cases k c with hc | ⟨z, -, hc⟩ <;> rw [ha, hb, hc]
  case inr.inr.inr =>
    rw [factor_real, factor_real, factor_real, ← EReal.coe_add, ← EReal.coe_add, ← EReal.coe_neg,
      div_real _ _ (by norm_num), ← EReal.coe_mul, ← EReal.coe_mul, ← Real.exp_add, ← Real.exp_add]
    refine congrArg (fun r : ℝ => ((Real.exp r : ℝ) : EReal)) ?_
    ring
  all_goals simp [factor_top, exp_bot_div]

end Cert.SoftAssign

end
-- ==== Proof.Weight.lean ====
module

public import proofs.«01_k».proof.Proof.Numbers

@[expose] public section

/-! The weight of a voxel: the logistic function of its logit over the mass of all points at the voxel. The
kernel takes one quotient and a power of two; the mathematics two quotients and an exponential. -/

noncomputable section

namespace Cert.SoftAssign

open Idealize.ShloMosaic

/-- Minus the base-two logarithm of Euler's number. -/
def negLog2e : EReal := ((-((Real.log 2)⁻¹) : ℝ) : EReal)

/-- The weight as the kernel computes it, of a logit `l` over a denominator `d`. -/
def weightOnce (l d : EReal) : EReal := Ideal.div 1 ((1 + Ideal.exp2 (l * negLog2e)) * d)

/-- The weight as the mathematics states it. -/
def weightTwice (l d : EReal) : EReal := Ideal.div (Ideal.div 1 (1 + Ideal.exp (-l))) d

/-- The real number that `negLog2e` is, is negative. -/
theorem negLog2e_neg : -((Real.log 2)⁻¹) < 0 := neg_lt_zero.2 (inv_pos.2 (Real.log_pos one_lt_two))

/-- A power of two of a real number times `negLog2e` is the exponential of its negation. -/
theorem exp2_negLog2e (r : ℝ) : Ideal.exp2 ((r : EReal) * negLog2e) = ((Real.exp (-r) : ℝ) : EReal) := by
  rw [negLog2e, ← EReal.coe_mul, Ideal.exp2_coe]
  refine congrArg (fun r : ℝ => (r : EReal)) ?_
  rw [Real.rpow_eq_pow, Real.rpow_def_of_pos two_pos]
  refine congrArg Real.exp ?_
  have := (Real.log_pos one_lt_two).ne'
  field_simp

/-- The two weights over a positive real denominator agree, and are one nonnegative real number. -/
theorem weight_eq (l : EReal) (d : ℝ) (hd : 0 < d) :
    ∃ w : ℝ, 0 ≤ w ∧ weightOnce l (d : EReal) = (w : EReal) ∧ weightTwice l (d : EReal) = (w : EReal) := by
  induction l with
  | bot =>
    have h1 : (1 : EReal) ≠ ⊥ := EReal.coe_ne_bot 1
    have h : Ideal.div 1 (⊤ : EReal) = ((0 : ℝ) : EReal) := by simp [Ideal.div]
    refine ⟨0, le_rfl, ?_, ?_⟩
    · rw [weightOnce, negLog2e, EReal.bot_mul_coe_of_neg negLog2e_neg, Ideal.exp2_top,
        EReal.add_top_of_ne_bot h1, EReal.top_mul_coe_of_pos hd, h]
    · rw [weightTwice, EReal.neg_bot, Ideal.exp_top, EReal.add_top_of_ne_bot h1, h, div_real _ _ hd, zero_div]
  | top =>
    refine ⟨1 / d, (one_div_pos.2 hd).le, ?_, ?_⟩
    · rw [weightOnce, negLog2e, EReal.top_mul_coe_of_neg negLog2e_neg, Ideal.exp2_bot, add_zero, one_mul,
        ← EReal.coe_one, div_real _ _ hd]
    · rw [weightTwice, EReal.neg_top, Ideal.exp_bot, add_zero, ← EReal.coe_one, div_real _ _ one_pos, div_real _ _ hd,
        div_one]
  | coe r =>
    have hp : 0 < 1 + Real.exp (-r) := add_pos one_pos (Real.exp_pos _)
    refine ⟨1 / (1 + Real.exp (-r)) / d, (div_pos (one_div_pos.2 hp) hd).le, ?_, ?_⟩
    · rw [weightOnce, exp2_negLog2e, ← EReal.coe_one, ← EReal.coe_add, ← EReal.coe_mul, div_real _ _ (mul_pos hp hd),
        div_div]
    · rw [weightTwice, ← EReal.coe_neg, Ideal.exp_coe, ← EReal.coe_one, ← EReal.coe_add, div_real _ _ hp, div_real _ _ hd]

end Cert.SoftAssign

end
-- ==== Proof.Mass.lean ====
module

public import proofs.«01_k».proof.Proof.Bump
public import proofs.«01_k».proof.Proof.Weight

@[expose] public section

/-! The mass a point gathers from one volume: the kernel's sum over the rows of a flattened volume, of a product
of two matrix products, against the sum over the volume of the Gaussian times the weight. -/

noncomputable section

namespace Cert.SoftAssign

open Idealize.ShloMosaic

variable (c : Fin 64 → Fin 3 → EReal) (l : Fin 32 → Fin 128 → Fin 128 → EReal)

/-- The depth of row `r` of the flattened volume. -/
def depth (r : Fin 4096) : Fin 32 := ⟨r.val / 128, by omega⟩

/-- The height of row `r` of the flattened volume. -/
def height (r : Fin 4096) : Fin 128 := ⟨r.val % 128, by omega⟩

/-- The first two axes' factor of the Gaussian of point `p`, at a row of the flattened volume. -/
def rowFactor (r : Fin 4096) (p : Fin 64) : EReal :=
  factor (gap (depth r).val (c p 0)) * factor (gap (height r).val (c p 1))

/-- The third axis's factor of the Gaussian of point `p`. -/
def colFactor (x : Fin 128) (p : Fin 64) : EReal := factor (gap x.val (c p 2))

/-- The mass of point `p` as the kernel sums it. -/
def massRows (p : Fin 64) : EReal :=
  ∑ r : Fin 4096, rowFactor c r p * ∑ x : Fin 128,
    weightOnce (l (depth r) (height r) x) (max (∑ q : Fin 64, rowFactor c r q * colFactor c x q) floorE) * colFactor c x p

/-- The Gaussian of point `p` at a voxel. -/
def bell (p : Fin 64) (z : Fin 32) (y x : Fin 128) : EReal :=
  Ideal.exp (Ideal.div (-(gap z.val (c p 0) + gap y.val (c p 1) + gap x.val (c p 2))) ((8 : ℝ) : EReal))

/-- The mass of point `p` as the mathematics states it. -/
def massVolume (p : Fin 64) : EReal :=
  ∑ z : Fin 32, ∑ y : Fin 128, ∑ x : Fin 128,
    bell c p z y x * weightTwice (l z y x) (max (∑ q : Fin 64, bell c q z y x) floorE)

/-- A sum over the rows of the flattened volume is the sum over depth and height. -/
theorem sum_rows {M : Type} [AddCommMonoid M] (f : Fin 32 → Fin 128 → M) :
    ∑ r : Fin 4096, f (depth r) (height r) = ∑ z : Fin 32, ∑ y : Fin 128, f z y := by
  rw [← Fintype.sum_prod_type' f]
  symm
  refine Fintype.sum_equiv (finProdFinEquiv (m := 32) (n := 128)) _ _ fun q => ?_
  have hz : depth (finProdFinEquiv (m := 32) (n := 128) q) = q.1 := by
    apply Fin.ext; simp only [depth, finProdFinEquiv_apply_val]; omega
  have hy : height (finProdFinEquiv (m := 32) (n := 128) q) = q.2 := by
    apply Fin.ext; simp only [height, finProdFinEquiv_apply_val]; omega
  rw [hz, hy]

/-- The Gaussian is the product of its three factors. -/
theorem bell_eq (p : Fin 64) (z : Fin 32) (y x : Fin 128) :
    factor (gap z.val (c p 0)) * factor (gap y.val (c p 1)) * colFactor c x p = bell c p z y x :=
  factor_mul _ _ _ _ _ _

/-- The two masses of a point agree, and are one nonnegative real number. -/
theorem mass_eq (p : Fin 64) : ∃ r : ℝ, 0 ≤ r ∧ massRows c l p = (r : EReal) ∧ massVolume c l p = (r : EReal) := by
  choose a ha ea using fun (z : Fin 32) p => factor_gap z.val (c p 0)
  choose b hb eb using fun (y : Fin 128) p => factor_gap y.val (c p 1)
  choose g hg eg using fun (x : Fin 128) p => factor_gap x.val (c p 2)
  have hrow : ∀ r p, rowFactor c r p = ((a (depth r) p * b (height r) p : ℝ) : EReal) := fun r p => by
    rw [rowFactor, ea, eb, EReal.coe_mul]
  have hcol : ∀ x p, colFactor c x p = (g x p : EReal) := fun x p => eg x p
  have hbell : ∀ p z y x, bell c p z y x = ((a z p * b y p * g x p : ℝ) : EReal) := fun p z y x => by
    rw [← bell_eq, ea, eb, hcol, EReal.coe_mul, EReal.coe_mul]
  choose d hd ed using fun z y x => max_floorE (∑ q, a z q * b y q * g x q)
  choose w hw ew ew' using fun z y x => weight_eq (l z y x) (d z y x) (hd z y x)
  have hR : massVolume c l p = ((∑ z, ∑ y, ∑ x, a z p * b y p * g x p * w z y x : ℝ) : EReal) := by
    simp only [massVolume, hbell, sum_real, ed, ew', ← EReal.coe_mul]
  have hK : massRows c l p
      = ((∑ r, a (depth r) p * b (height r) p * ∑ x, w (depth r) (height r) x * g x p : ℝ) : EReal) := by
    simp only [massRows, hrow, hcol, ← EReal.coe_mul, sum_real, ed, ew]
  refine ⟨_, ?_, ?_, hR⟩
  · exact Finset.sum_nonneg fun z _ => Finset.sum_nonneg fun y _ => Finset.sum_nonneg fun x _ =>
      mul_nonneg (mul_nonneg (mul_nonneg (ha _ _) (hb _ _)) (hg _ _)) (hw _ _ _)
  · rw [hK, sum_rows fun z y => a z p * b y p * ∑ x, w z y x * g x p]
    refine congrArg (fun r : ℝ => (r : EReal)) ?_
    refine Finset.sum_congr rfl fun z _ => Finset.sum_congr rfl fun y _ => ?_
    rw [Finset.mul_sum]
    exact Finset.sum_congr rfl fun x _ => by ring

end Cert.SoftAssign

end
-- ==== Proof.Mean.lean ====
module

public import proofs.«01_k».proof.Proof.Mass

@[expose] public section

/-! The loss: the kernel adds one share per volume into a running total; the mathematics takes the mean over the
points of one volume, then the mean over the volumes. -/

noncomputable section

namespace Cert.SoftAssign

open Idealize.ShloMosaic

variable (c : Fin 4 → Fin 64 → Fin 3 → EReal) (l : Fin 4 → Fin 32 → Fin 128 → Fin 128 → EReal)

/-- One volume's share of the loss, as the kernel adds it. -/
def share (c : Fin 64 → Fin 3 → EReal) (l : Fin 32 → Fin 128 → Fin 128 → EReal) : EReal :=
  (∑ p : Fin 64, (0 - Ideal.log (max (massRows c l p) floorE))) * ((1 / 256 : ℝ) : EReal)

/-- The running total after the volumes numbered `0` to `n`. -/
def total (f : Nat → EReal) : Nat → EReal
  | 0 => 0 + f 0
  | n + 1 => total f n + f (n + 1)

/-- The loss as the mathematics states it. -/
def loss : EReal :=
  Ideal.div (∑ n : Fin 4, -(Ideal.div (∑ p : Fin 64, Ideal.log (max (massVolume (c n) (l n) p) floorE)) ((64 : ℝ) : EReal)))
    ((4 : ℝ) : EReal)

/-- A point's logarithm is a real number, the same on the two sides. -/
theorem log_mass (c : Fin 64 → Fin 3 → EReal) (l : Fin 32 → Fin 128 → Fin 128 → EReal) (p : Fin 64) :
    ∃ r : ℝ, Ideal.log (max (massRows c l p) floorE) = (r : EReal)
      ∧ Ideal.log (max (massVolume c l p) floorE) = (r : EReal) := by
  obtain ⟨m, -, hK, hR⟩ := mass_eq c l p
  obtain ⟨d, hd, hm⟩ := max_floorE m
  have : Ideal.log (d : EReal) = ((Real.log d : ℝ) : EReal) := by rw [Ideal.log_coe, if_neg hd.not_ge]
  exact ⟨Real.log d, by rw [hK, hm, this], by rw [hR, hm, this]⟩

/-- The total of the four shares is the loss. -/
theorem total_eq (f : Nat → EReal) (hf : ∀ n : Fin 4, f n.val = share (c n) (l n)) : total f 3 = loss c l := by
  choose r hK hR using fun n p => log_mass (c n) (l n) p
  have hs : ∀ n : Fin 4, f n.val = (((∑ p, (0 - r n p)) * (1 / 256) : ℝ) : EReal) := fun n => by
    rw [hf]
    simp only [share, hK, ← EReal.coe_zero, ← EReal.coe_sub, sum_real, ← EReal.coe_mul]
  have hl : loss c l = (((∑ n, -((∑ p, r n p) / 64)) / 4 : ℝ) : EReal) := by
    simp only [loss, hR, sum_real]
    simp only [div_real _ _ (show (0 : ℝ) < 64 by norm_num), ← EReal.coe_neg, sum_real]
    rw [div_real _ _ (show (0 : ℝ) < 4 by norm_num)]
  have h0 := hs 0
  have h1 := hs 1
  have h2 := hs 2
  have h3 := hs 3
  change f 0 = _ at h0
  change f 1 = _ at h1
  change f 2 = _ at h2
  change f 3 = _ at h3
  rw [hl]
  simp only [total, zero_add, h0, h1, h2, h3, ← EReal.coe_add]
  refine congrArg (fun r : ℝ => (r : EReal)) ?_
  simp only [Fin.sum_univ_four, zero_sub, Finset.sum_neg_distrib]
  ring

end Cert.SoftAssign

end
-- ==== Proof.Block.lean ====
module

public import proofs.«01_k».proof.Proof.Gen.KernelIdeal.Skeleton
public import proofs.«01_k».proof.Proof.Mean

@[expose] public section

/-! What the kernel computes from one volume and its points, over the extended reals: the running total plus that
volume's share of the loss. -/

set_option maxRecDepth 16384

noncomputable section

namespace Cert.KernelIdeal.Block

open Idealize.ShloMosaic Cert.KernelIdeal Cert.KernelIdeal.Gen Cert.SoftAssign

/-- The points of one volume, by number and coordinate. -/
def points (v : Vec Ideal S1x64x3 .f32) (p : Fin 64) (a : Fin 3) : EReal := v (ix3 0 p a)

/-- The logits of one volume, by depth, height and width. -/
def logits (v : Vec Ideal S1x32x128x128 .f32) (z : Fin 32) (y x : Fin 128) : EReal := v (ix4 0 z y x)

/-- The named constant is minus the base-two logarithm of Euler's number. -/
theorem named_eq : Named.named (F := Ideal) κ (φ := .f32) "neg_log2_e" 0xBFB8AA3B#32 = negLog2e :=
  IdealRules.named_const.ideal_named_scalar κ "neg_log2_e" _ _ rfl

/-- The third axis's table holds that axis's factors. -/
theorem col_apply (v : Vec Ideal S1x64x3 .f32) (x : Fin 128) (p : Fin 64) :
    k0_pay2 (F := Ideal) v (ix2 x p) = colFactor (points v) x p := by
  pointwise [k0_pay2, k0_pay1]
  rw [eighth]
  rfl

/-- The table of the first two axes holds the products of their factors. -/
theorem row_apply (v : Vec Ideal S1x64x3 .f32) (r : Fin 4096) (p : Fin 64) :
    k0_pay3 (F := Ideal) v (ix2 r p) = rowFactor (points v) r p := by
  pointwise [k0_pay3, k0_pay1]
  rw [eighth]
  rfl

/-- The body adds the volume's share of the loss to the running total. -/
theorem share_apply (v : Vec Ideal S1x64x3 .f32) (w : Vec Ideal S1x32x128x128 .f32) (o : Vec Ideal S1x1 .f32)
    (i j : Fin 1) :
    k0_pay5 (F := Ideal) (k0_pay2 v) (k0_pay3 v) w o (ix2 i j) = o (ix2 i j) + share (points v) (logits w) := by
  pointwise [k0_pay5]
  simp only [col_apply, row_apply, named_eq, perCell, Finset.univ_unique, Finset.sum_singleton]
  rfl

/-- The running total starts from zero. -/
theorem zero_apply (i j : Fin 1) : k0_pay4 (F := Ideal) (ix2 i j) = 0 := by
  pointwise [k0_pay4]

end Cert.KernelIdeal.Block

end
-- ==== Proof.Launch.lean ====
module

public import proofs.«01_k».proof.Proof.Gen.KernelIdeal.Frame
public import proofs.«01_k».proof.Proof.Block
public import Idealize.ShloMosaic.Lib.Pipeline.Value
public import Idealize.ShloMosaic.Lib.Claim
public import Idealize.ShloMosaic.Lib.StableHlo.ReadAt
public import Idealize.ShloMosaic.Lib.Tactic

@[expose] public section

/-! What the whole launch leaves in the kernel's result, over the extended reals: the total of the four volumes'
shares of the loss. -/

set_option maxRecDepth 16384

noncomputable section

namespace Cert.KernelIdeal.Launch

open Idealize.ShloMosaic Idealize.ShloMosaic.TcCoe Idealize.SL.Sem
open Idealize.ShloMosaic.Pipeline (Dat)
open Cert.KernelIdeal Cert.KernelIdeal.Gen Cert.SoftAssign

/-! ## One grid point -/

/-- Two zero offsets. -/
theorem zero2 : (![0, 0] : Fin 2 → Nat) = fun _ => 0 := funext fun a => by fin_cases a <;> rfl

/-- Four zero offsets. -/
theorem zero4 : (![0, 0, 0, 0] : Fin 4 → Nat) = fun _ => 0 := funext fun a => by fin_cases a <;> rfl

/-- The points of one volume, as the body loads them from the table of all points at grid coordinates `i`. -/
def row (i : grid0.Coords) (x : Vec Ideal S4x64x3 .f32) : Vec Ideal S1x64x3 .f32 :=
  View.ld x (Rect.unit (s := S4x64x3) (k0_off1 i) S1x64x3.size (k0_off1_inb i))

/-- What the body leaves from the points `v`, the logits `y` and the running total `o`. -/
def step (v : Vec Ideal S1x64x3 .f32) (y : Vec Ideal S1x32x128x128 .f32) (o : Vec Ideal S1x1 .f32) : Vec Ideal S1x1 .f32 :=
  k0_pay5 (F := Ideal) (k0_pay2 v) (k0_pay3 v) y o

/-- At every grid point after the first the body leaves its step from the running total it finds. -/
theorem later_point (c : Dev nD) (i : grid0.Coords) (a1 : Memref sig .tc .vmem S4x64x3 .f32) (h1 : a1.IsWhole)
    (a2 : Memref sig .tc .vmem S1x32x128x128 .f32) (h2 : a2.IsWhole) (a3 : Memref sig .tc .vmem S1x1 .f32) (h3 : a3.IsWhole)
    (hc : ¬cond0_0 i) (x : Vec Ideal S4x64x3 .f32) (y : Vec Ideal S1x32x128x128 .f32) (o : Vec Ideal S1x1 .f32) :
    out0_B_2 c i a1 h1 a2 h2 a3 h3 hc x y o = step (row i x) y o := by
  unfold out0_B_2
  rw [View.read_writes_eq_canon _ _ _ (cover0_B_2 c i a1 h1 a2 h2 a3 h3 hc x y o)]
  unfold kernelRun0_B
  dsimp only
  sl_unfold_words
  rw [View.canon_unit_zero zero2]
  simp only [View.readAt_eq_ld, h1.read_unread, h2.read_unread, h3.read_unread,
    View.ld_unit_zero (S := S1x1) zero2, View.ld_unit_zero (S := S1x32x128x128) zero4]
  rfl

/-- At the first grid point the body leaves its step from a zero running total. -/
theorem first_point (c : Dev nD) (i : grid0.Coords) (a1 : Memref sig .tc .vmem S4x64x3 .f32) (h1 : a1.IsWhole)
    (a2 : Memref sig .tc .vmem S1x32x128x128 .f32) (h2 : a2.IsWhole) (a3 : Memref sig .tc .vmem S1x1 .f32) (h3 : a3.IsWhole)
    (hc : cond0_0 i) (x : Vec Ideal S4x64x3 .f32) (y : Vec Ideal S1x32x128x128 .f32) :
    out0_A_2 c i a1 h1 a2 h2 a3 h3 hc x y = step (row i x) y (k0_pay4 (F := Ideal)) := by
  unfold out0_A_2
  rw [View.read_writes_eq_canon _ _ _ (cover0_A_2 c i a1 h1 a2 h2 a3 h3 hc x y)]
  unfold kernelRun0_A
  dsimp only
  sl_unfold_words
  rw [View.canon_cons_unit_zero (S := S1x1) zero2, View.readCov_unit_zero (S := S1x1) _ zero2]
  simp only [View.readAt_eq_ld, h1.read_unread, h2.read_unread, View.ld_unit_zero (S := S1x32x128x128) zero4]
  rfl

/-! ## What a grid point reads -/

variable (m : (ℓ : Loc nD τ sig) → Buf (Elt Ideal) ℓ) (c : Dev nD)

/-- The points, by volume, number and coordinate. -/
def points (n : Fin 4) (p : Fin 64) (a : Fin 3) : EReal :=
  (m ((c : Thread nD τ).loc main_arg1) : Vec Ideal S4x64x3 .f32) (ix3 n p a)

/-- The logits, by volume, depth, height and width. -/
def logits (n : Fin 4) (z : Fin 32) (y x : Fin 128) : EReal :=
  (m ((c : Thread nD τ).loc main_arg0) : Vec Ideal S4x1x32x128x128 .f32) (ix5 n 0 z y x)

/-- The volume of a grid point. -/
def volume (n : Nat) : Fin 4 := ⟨n % 4, Nat.mod_lt _ (by norm_num)⟩

/-- The row offset of the points' load at a grid point is the point's number. -/
theorem off_eq (t : Fin cfg0.N) : k0_off1 (grid0.coords t) = ![t.val, 0, 0] := by
  rcases fin_N0 t with rfl | rfl | rfl | rfl <;> decide

/-- The points' block is the whole table at every grid point. -/
theorem index0 (t : Fin cfg0.N) : win0_0.index t 0 = 0 ∧ win0_0.index t 1 = 0 ∧ win0_0.index t 2 = 0 := by
  rcases fin_N0 t with rfl | rfl | rfl | rfl <;> decide

/-- The logits' block at a grid point is the volume of that number. -/
theorem index1 (t : Fin cfg0.N) :
    win0_1.index t 0 = t.val ∧ win0_1.index t 1 = 0 ∧ win0_1.index t 2 = 0 ∧ win0_1.index t 3 = 0 := by
  rcases fin_N0 t with rfl | rfl | rfl | rfl <;> decide

/-- A grid point reads the points of its volume. -/
theorem points_eq (t : Fin cfg0.N) :
    Block.points (row (grid0.coords t) (iblk m c 0 t)) = points m c (volume t.val) := by
  have ht : t.val < 4 := Nat.lt_of_lt_of_eq t.isLt N_0
  obtain ⟨h0, h1, h2⟩ := index0 t
  have ho := off_eq t
  funext p a
  change (V m c main_arg1) _ = _
  rw [V_main_arg1]
  unfold points
  congr 1
  funext b
  apply Fin.ext
  match b with
  | ⟨0, _⟩ =>
    show win0_0.index t 0 * 4 + 1 * (k0_off1 (grid0.coords t) 0 + 1 * 0) = t.val % 4
    rw [h0, ho]; simp; omega
  | ⟨1, _⟩ =>
    show win0_0.index t 1 * 64 + 1 * (k0_off1 (grid0.coords t) 1 + 1 * p.val) = p.val
    rw [h1, ho]; simp
  | ⟨2, _⟩ =>
    show win0_0.index t 2 * 3 + 1 * (k0_off1 (grid0.coords t) 2 + 1 * a.val) = a.val
    rw [h2, ho]; simp

/-- The array of logits the launch finds, at an index. -/
theorem entry_apply (n : Fin 4) (z : Fin 32) (y x : Fin 128) :
    (V m c main_call0_v0 : Vec Ideal S4x32x128x128 .f32) (ix4 n z y x) = logits m c n z y x := by
  unfold V
  after_reads_at
  rfl

/-- A grid point reads the logits of its volume. -/
theorem logits_eq (t : Fin cfg0.N) : Block.logits (iblk m c 1 t) = logits m c (volume t.val) := by
  have ht : t.val < 4 := Nat.lt_of_lt_of_eq t.isLt N_0
  obtain ⟨h0, h1, h2, h3⟩ := index1 t
  funext z y x
  rw [← entry_apply]
  change (V m c main_call0_v0) _ = _
  congr 1
  funext b
  apply Fin.ext
  match b with
  | ⟨0, _⟩ => show win0_1.index t 0 * 1 + 1 * 0 = t.val % 4; rw [h0]; omega
  | ⟨1, _⟩ => show win0_1.index t 1 * 32 + 1 * z.val = z.val; rw [h1]; omega
  | ⟨2, _⟩ => show win0_1.index t 2 * 128 + 1 * y.val = y.val; rw [h2]; omega
  | ⟨3, _⟩ => show win0_1.index t 3 * 128 + 1 * x.val = x.val; rw [h3]; omega

/-! ## The running total -/

/-- The share of the loss of the volume of grid point `n`. -/
def shareAt (n : Nat) : EReal := share (points m c (volume n)) (logits m c (volume n))

/-- A grid point's step adds its volume's share. -/
theorem step_apply (t : Fin cfg0.N) (o : Vec Ideal S1x1 .f32) (j : S1x1.Idx) :
    step (row (grid0.coords t) (iblk m c 0 t)) (iblk m c 1 t) o j = o j + shareAt m c t.val := by
  obtain ⟨a, b, rfl⟩ : ∃ a b : Fin 1, j = ix2 a b := ⟨j 0, j 1, eq_ix2 j⟩
  rw [step, Block.share_apply, points_eq, logits_eq]
  rfl

/-- After grid point `n` the result's block holds the running total of the shares up to it. -/
theorem outs_eq : ∀ (n : Nat) (h : n < cfg0.N), outsAt0 m c n h = fun _ => total (shareAt m c) n
  | 0, h => by
    rw [show outsAt0 m c 0 h = _ from outsAt0_A m c ⟨0, h⟩ rfl, first_point]
    funext j
    obtain ⟨a, b, rfl⟩ : ∃ a b : Fin 1, j = ix2 a b := ⟨j 0, j 1, eq_ix2 j⟩
    rw [step_apply m c ⟨0, h⟩, Block.zero_apply]
    rfl
  | n + 1, h => by
    have hN : cfg0.N = 4 := N_0
    rw [show outsAt0 m c (n + 1) h = _ from outsAt0_B m c ⟨n + 1, h⟩ (by dsimp only; omega), later_point]
    funext j
    rw [step_apply m c ⟨n + 1, h⟩]
    change outsAt0 m c n _ j + _ = _
    rw [outs_eq n]
    rfl

/-! ## The result -/

/-- The result's one-element array at the end of the launch. -/
def cell : Buf (Elt Ideal) ((c : Thread nD τ).loc main_call0_v1) := fun _ => total (shareAt m c) 3

/-- The one write-back writes it. -/
theorem written (t : Fin cfg0.N) (hf : (cfg0.win 2).flush t = true) :
    (dats m 0 c).flushed 2 t = ((cfg0.win 2).blk t).view.read (Elt Ideal) (cell m c) := by
  have hN : cfg0.N = 4 := N_0
  have h3 : t.val = 3 := by have := (flush0_2 t).mp hf; have := t.isLt; omega
  change (cfg0.win 2).cut (grid0.coords t) ((dats m 0 c).after 2 t) = _
  rw [after0_2, outs_eq, h3]
  rfl

/-- So the array ends holding it. -/
theorem array_end : (dats m 0 c).arrAt 2 cfg0.N = cell m c :=
  (dats m 0 c).arrAt_eq_of_cover 2 (cell m c) (written m c) fun i =>
    ⟨t0_3, (flush0_2 t0_3).mpr rfl, by
      change i ∈ ((View.whole main_call0_v1).slice (win0_2.rect t0_3)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_3 0 * win0_2.size 0 ≤ (i 0 : Nat)
          ∧ (i 0 : Nat) < win0_2.index t0_3 0 * win0_2.size 0 + win0_2.xsize (grid0.coords t0_3) 0
        rw [show win0_2.index t0_3 0 * win0_2.size 0 = 0 from by decide +kernel,
          show win0_2.xsize (grid0.coords t0_3) 0 = 1 from by decide +kernel]
        omega
      | ⟨1, _⟩ =>
        show win0_2.index t0_3 1 * win0_2.size 1 ≤ (i 1 : Nat)
          ∧ (i 1 : Nat) < win0_2.index t0_3 1 * win0_2.size 1 + win0_2.xsize (grid0.coords t0_3) 1
        rw [show win0_2.index t0_3 1 * win0_2.size 1 = 0 from by decide +kernel,
          show win0_2.xsize (grid0.coords t0_3) 1 = 1 from by decide +kernel]
        omega⟩

/-- The host's reshape of the one-element array leaves the total in the scalar result. -/
theorem tail_eq : Pipeline.afterTail₀ cfgs (dats m) 0 (V0 m) [hostOps1] c main_v0
    = (fun _ => total (shareAt m c) 3 : Vec Ideal S_ .f32) := by
  have hA : Pipeline.withArrays (cfgs 0).spec c (V0 m c) (fun w => (dats m 0 c).arrAt w (cfgs 0).N)
      (Proc.devRef .tc main_call0_v1) = cell m c :=
    (Pipeline.withArrays_arr spec0 launch0.win.arr_inj c (V0 m c) _ 2).trans (array_end m c)
  unfold Pipeline.afterTail₀
  simp only [hostOps1, List.flatten_cons, List.flatten_nil, List.append_nil]
  after_results
  rw [hA]
  rfl

/-- The run: the result ends at the total of the four shares. -/
theorem run (ρ : Dev nD → PrngReg) : θ_run defs (onTc (τ := τ) (main (F := Ideal))) ⟨m, fun _ => 0, ρ⟩ fun r => ∀ c : Dev nD,
    r.2.mem ((c : Thread nD τ).loc main_v0) = (fun _ => total (shareAt m c) 3 : Vec Ideal S_ .f32) :=
  (θ_run defs _ _).mono (fun _ h c =>
    ((h c).2 main_v0 (Pipeline.mem_restRefs_of main_v0 (by decide) (by decide))).trans (tail_eq m c)) (run_main m ρ)

end Cert.KernelIdeal.Launch

end
-- ==== Proof.Reference.lean ====
module

public import proofs.«01_k».proof.Proof.Gen.ReferenceIdeal.Run
public import proofs.«01_k».proof.Proof.Mean
public import Idealize.ShloMosaic.Lib.Tactic.CleanTypes

@[expose] public section

/-! What the reference computes from its two arguments, over the extended reals: the loss. -/

set_option maxRecDepth 16384

noncomputable section

namespace Cert.ReferenceIdeal.Loss

open Idealize.ShloMosaic Idealize.ShloMosaic.TcCoe Idealize.SL.Sem
open Cert.ReferenceIdeal Cert.ReferenceIdeal.Gen Cert.ReferenceIdeal.Value Cert.SoftAssign

/-- The dimension numbers of the reference's contraction over a whole volume. -/
abbrev dims : DotDims S4x64x32x128x128 S4x32x128x128 S4x64 := dot_S4x64x32x128x128_S4x32x128x128_S4x64_432_321_1_n_0_0

/-- The contraction index with the given depth, height and width: width first, depth last. -/
def voxel (z : Fin 32) (y x : Fin 128) : dims.contr.Idx
  | ⟨0, _⟩ => x
  | ⟨1, _⟩ => y
  | ⟨2, _⟩ => z

/-- The contraction indices are the voxels of a volume. -/
def voxels : Fin 32 × Fin 128 × Fin 128 ≃ dims.contr.Idx where
  toFun q := voxel q.1 q.2.1 q.2.2
  invFun k := (k ⟨2, by decide⟩, k ⟨1, by decide⟩, k ⟨0, by decide⟩)
  left_inv _ := rfl
  right_inv k := by
    funext p
    match p with
    | ⟨0, _⟩ => rfl
    | ⟨1, _⟩ => rfl
    | ⟨2, _⟩ => rfl

/-- At a voxel the contraction reads the left operand at the volume, the point and the voxel. -/
theorem lhs_voxel (n : Fin 4) (p : Fin 64) (z : Fin 32) (y x : Fin 128) :
    dims.lhsIdx (ix2 n p) (voxel z y x) = ix5 n p z y x := by
  funext a
  fin_cases a <;> rfl

/-- At a voxel the contraction reads the right operand at the volume and the voxel. -/
theorem rhs_voxel (n : Fin 4) (p : Fin 64) (z : Fin 32) (y x : Fin 128) :
    dims.rhsIdx (ix2 n p) (voxel z y x) = ix4 n z y x := by
  funext a
  fin_cases a <;> rfl

/-- The reference's contraction at a volume and a point is the sum over the volume's voxels. -/
theorem contraction_apply (f : S4x64x32x128x128.Idx → EReal) (g : S4x32x128x128.Idx → EReal) (n : Fin 4) (p : Fin 64) :
    Ideal.matmul dims f g (fun _ => 0) (ix2 n p)
      = ∑ z : Fin 32, ∑ y : Fin 128, ∑ x : Fin 128, f (ix5 n p z y x) * g (ix4 n z y x) := by
  unfold Ideal.matmul
  rw [zero_add, ← Equiv.sum_comp voxels, Fintype.sum_prod_type]
  refine Finset.sum_congr rfl fun z _ => ?_
  rw [Fintype.sum_prod_type]
  refine Finset.sum_congr rfl fun y _ => Finset.sum_congr rfl fun x _ => ?_
  change f (dims.lhsIdx _ (voxel z y x)) * g (dims.rhsIdx _ (voxel z y x)) = _
  rw [lhs_voxel, rhs_voxel]

variable (m : (ℓ : Loc nD τ sig) → Buf (Elt Ideal) ℓ) (c : Dev nD)

/-- The points, by volume, number and coordinate. -/
def points (n : Fin 4) (p : Fin 64) (a : Fin 3) : EReal :=
  (m ((c : Thread nD τ).loc main_arg1) : Vec Ideal S4x64x3 .f32) (ix3 n p a)

/-- The logits, by volume, depth, height and width. -/
def logits (n : Fin 4) (z : Fin 32) (y x : Fin 128) : EReal :=
  (m ((c : Thread nD τ).loc main_arg0) : Vec Ideal S4x1x32x128x128 .f32) (ix5 n 0 z y x)

/-- The reference's result is the loss. -/
theorem result_eq : (res_main_v57 (F := Ideal) m c : Vec Ideal S_ .f32) = fun _ => loss (points m c) (logits m c) := by
  funext j
  unfold res_main_v57
  clean_types
  pointwise
  simp only [contraction_apply]
  pointwise
  simp only [eight, sixtyFour, four]
  rfl

end Cert.ReferenceIdeal.Loss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Reference
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference runs, its arguments end unchanged and every semaphore counter at zero. -/
theorem frame_reference : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run m g)

/-- The constant the kernel's idealization names is minus the base-two logarithm of Euler's number. -/
theorem named : Cert.preserves_Kernel_KernelIdeal :=
  IdealRules.named_const.statement _ _ _ _ _ rfl

/-- From the same arguments the kernel and the reference end at the same loss. -/
theorem same_loss : Cert.algebraic_KernelIdeal_ReferenceIdeal (hKernelIdeal := Cert.KernelIdeal.Gen.facts)
    (hReferenceIdeal := Cert.ReferenceIdeal.Gen.facts) := by
  intro m g m' g' _ same
  refine ⟨fun c => (fun _ => Cert.SoftAssign.total (Cert.KernelIdeal.Launch.shareAt m c) 3 : Vec Ideal Cert.KernelIdeal.S_ .f32),
    θ_run_mono (θ_run_and (Cert.KernelIdeal.Launch.run m g) (Cert.KernelIdeal.Gen.unchanged m g))
      fun r h c => ⟨h.1 c, h.2 c⟩,
    θ_run_mono (Cert.ReferenceIdeal.Value.run m' g') fun r h c => ⟨(h c).1.trans ?_, (h c).2⟩⟩
  have hp : Cert.ReferenceIdeal.Loss.points m' c = Cert.KernelIdeal.Launch.points m c := by
    unfold Cert.ReferenceIdeal.Loss.points Cert.KernelIdeal.Launch.points
    rw [(same c).2]
  have hl : Cert.ReferenceIdeal.Loss.logits m' c = Cert.KernelIdeal.Launch.logits m c := by
    unfold Cert.ReferenceIdeal.Loss.logits Cert.KernelIdeal.Launch.logits
    rw [(same c).1]
  refine (Cert.ReferenceIdeal.Loss.result_eq m' c).trans ?_
  funext j
  rw [hp, hl]
  refine (Cert.SoftAssign.total_eq _ _ (Cert.KernelIdeal.Launch.shareAt m c) fun n => ?_).symm
  have hv : Cert.KernelIdeal.Launch.volume n.val = n := Fin.ext (Nat.mod_eq_of_lt n.isLt)
  rw [Cert.KernelIdeal.Launch.shareAt, hv]

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, named, same_loss⟩

end Cert.Proof

end
